-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_u [hPre_finite_u : Cert.Pre_finite_u.Facts] (m : (ℓ : Loc Cert.KernelIdeal.nD Cert.KernelIdeal.τ Cert.KernelIdeal.sig) → Buf (Elt Ideal) ℓ) : Prop :=
  ∀ c : Dev Cert.KernelIdeal.nD,
    (Cert.Pre_finite_u.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_u [hPre_finite_u : Cert.Pre_finite_u.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_u.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_u [hKernelIdeal : Cert.KernelIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_u m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_u [hReferenceIdeal : Cert.ReferenceIdeal.Facts] [hPre_finite_u : Cert.Pre_finite_u.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_u m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_u [hKernelIdeal : Cert.KernelIdeal.Facts] [hReferenceIdeal : Cert.ReferenceIdeal.Facts] [hPre_finite_u : Cert.Pre_finite_u.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_u m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_u : Cert.Pre_finite_u.Facts),
    quiescent_Kernel (hKernel := hKernel)
    ∧ quiescent_KernelIdeal (hKernelIdeal := hKernelIdeal)
    ∧ quiescent_KernelIdeal_pre_finite_u (hKernelIdeal := hKernelIdeal) (hPre_finite_u := hPre_finite_u)
    ∧ quiescent_ReferenceIdeal (hReferenceIdeal := hReferenceIdeal)
    ∧ quiescent_ReferenceIdeal_pre_finite_u (hReferenceIdeal := hReferenceIdeal) (hPre_finite_u := hPre_finite_u)
    ∧ preserves_Kernel_KernelIdeal
    ∧ algebraic_KernelIdeal_ReferenceIdeal_pre_finite_u (hKernelIdeal := hKernelIdeal) (hReferenceIdeal := hReferenceIdeal) (hPre_finite_u := hPre_finite_u)
-- ==== Pre_finite_u.lean ====
abbrev S64x4096x256 : Shape := ⟨3, ![64, 4096, 256]⟩
abbrev S64x4096 : Shape := ⟨2, ![64, 4096]⟩
abbrev S256x64 : Shape := ⟨2, ![256, 64]⟩
abbrev S64 : Shape := ⟨1, ![64]⟩
abbrev S64x1 : Shape := ⟨2, ![64, 1]⟩
abbrev S_ : Shape := ⟨0, ![]⟩

class Facts : Prop where
  bcast_S_S64x1 : S_.BroadcastsInDim S64x1 (![] : Fin 0 → Fin S64x1.rank)

variable [Facts]

def fn {F : FTy → Type} [FloatOps F] (main_arg0 : FVec F S64x4096x256 .f32) (main_arg1 : IVec S64x4096 32) (main_arg2 : FVec F S256x64 .f32) (main_arg3 : FVec F S64 .f32) (main_arg4 : FVec F S64x1 .f32) : IVec S64x1 1 :=
  let main_v0 : FVec F S64x1 .f32 := Host.absf main_arg4
  let main_cst : FVec F S_ .f32 := constant S_ .f32 0x7F800000#32
  let main_v1 : FVec F S64x1 .f32 := broadcastInDim S64x1 ![] bcast_S_S64x1 main_cst
  let main_v2 : IVec S64x1 1 := cmpf .olt main_v0 main_v1
  main_v2
-- ==== Kernel.lean ====
abbrev S64x4096x256 : Shape := ⟨3, ![64, 4096, 256]⟩
abbrev S64x4096 : Shape := ⟨2, ![64, 4096]⟩
abbrev S256x64 : Shape := ⟨2, ![256, 64]⟩
abbrev S64 : Shape := ⟨1, ![64]⟩
abbrev S64x1 : Shape := ⟨2, ![64, 1]⟩
abbrev S64x1x4096 : Shape := ⟨3, ![64, 1, 4096]⟩
abbrev S1x64 : Shape := ⟨2, ![1, 64]⟩
abbrev S64x1x256 : Shape := ⟨3, ![64, 1, 256]⟩
abbrev S2x4096x256 : Shape := ⟨3, ![2, 4096, 256]⟩
abbrev S2x1x4096 : Shape := ⟨3, ![2, 1, 4096]⟩
abbrev S2x1x256 : Shape := ⟨3, ![2, 1, 256]⟩
abbrev S1x4096x256 : Shape := ⟨3, ![1, 4096, 256]⟩
abbrev S4096x256 : Shape := ⟨2, ![4096, 256]⟩
abbrev S4096x64 : Shape := ⟨2, ![4096, 64]⟩
abbrev S1x4096 : Shape := ⟨2, ![1, 4096]⟩
abbrev S1x1x4096 : Shape := ⟨3, ![1, 1, 4096]⟩
abbrev S1 : Shape := ⟨1, ![1]⟩
abbrev S1x1 : Shape := ⟨2, ![1, 1]⟩
abbrev S1x256 : Shape := ⟨2, ![1, 256]⟩
abbrev S1x1x256 : Shape := ⟨3, ![1, 1, 256]⟩
abbrev S64x256 : Shape := ⟨2, ![64, 256]⟩

abbrev nBuf : Space → Nat
  | .hbm => 12
  | .vmem => 10
  | .smem => 0
  | _ => 0

abbrev bufTy : (tb : Table) → Fin (tcTables nBuf tb) → BufTy
  | .hbm, ⟨0, _⟩ => ⟨S64x4096x256, .f32⟩
  | .hbm, ⟨1, _⟩ => ⟨S64x4096, .i32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S64x1x4096, .i32⟩
  | .hbm, ⟨6, _⟩ => ⟨S1x64, .f32⟩
  | .hbm, ⟨7, _⟩ => ⟨S1x64, .f32⟩
  | .hbm, ⟨8, _⟩ => ⟨S1x64, .bf16⟩
  | .hbm, ⟨9, _⟩ => ⟨S256x64, .bf16⟩
  | .hbm, ⟨10, _⟩ => ⟨S64x1x256, .f32⟩
  | .hbm, ⟨11, _⟩ => ⟨S64x256, .f32⟩
  | .local _ .vmem, ⟨0, _⟩ => ⟨S2x4096x256, .f32⟩
  | .local _ .vmem, ⟨1, _⟩ => ⟨S2x4096x256, .f32⟩
  | .local _ .vmem, ⟨2, _⟩ => ⟨S2x1x4096, .i32⟩
  | .local _ .vmem, ⟨3, _⟩ => ⟨S2x1x4096, .i32⟩
  | .local _ .vmem, ⟨4, _⟩ => ⟨S256x64, .bf16⟩
  | .local _ .vmem, ⟨5, _⟩ => ⟨S1x64, .f32⟩
  | .local _ .vmem, ⟨6, _⟩ => ⟨S1x64, .bf16⟩
  | .local _ .vmem, ⟨7, _⟩ => ⟨S2x1x256, .f32⟩
  | .local _ .vmem, ⟨8, _⟩ => ⟨S2x1x256, .f32⟩
  | .local _ .vmem, ⟨9, _⟩ => ⟨S2x4096x256, .bf16⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x4096x256 : Shape := ⟨3, ![64, 4096, 256]⟩
abbrev S64x4096 : Shape := ⟨2, ![64, 4096]⟩
abbrev S256x64 : Shape := ⟨2, ![256, 64]⟩
abbrev S64 : Shape := ⟨1, ![64]⟩
abbrev S64x1 : Shape := ⟨2, ![64, 1]⟩
abbrev S64x4096x64 : Shape := ⟨3, ![64, 4096, 64]⟩
abbrev S1x1x64 : Shape := ⟨3, ![1, 1, 64]⟩
abbrev S64x4096x1 : Shape := ⟨3, ![64, 4096, 1]⟩
abbrev S_ : Shape := ⟨0, ![]⟩
abbrev S64x256 : Shape := ⟨2, ![64, 256]⟩

abbrev nBuf : Space → Nat
  | .hbm => 35
  | .vmem => 0
  | .smem => 0
  | _ => 0

abbrev bufTy : (tb : Table) → Fin (tcTables nBuf tb) → BufTy
  | .hbm, ⟨0, _⟩ => ⟨S64x4096x256, .f32⟩
  | .hbm, ⟨1, _⟩ => ⟨S64x4096, .i32⟩
  | .hbm, ⟨2, _⟩ => ⟨S256x64, .f32⟩
  | .hbm, ⟨3, _⟩ => ⟨S64, .f32⟩
  | .hbm, ⟨4, _⟩ => ⟨S64x1, .f32⟩
  | .hbm, ⟨5, _⟩ => ⟨S64x4096x64, .f32⟩
  | .hbm, ⟨6, _⟩ => ⟨S1x1x64, .f32⟩
  | .hbm, ⟨7, _⟩ => ⟨S64x4096x64, .f32⟩
  | .hbm, ⟨8, _⟩ => ⟨S64x4096x64, .f32⟩
  | .hbm, ⟨9, _⟩ => ⟨S64x4096x64, .f32⟩
  | .hbm, ⟨10, _⟩ => ⟨S64x4096x1, .f32⟩
  | .hbm, ⟨11, _⟩ => ⟨S64x4096, .f32⟩
  | .hbm, ⟨12, _⟩ => ⟨S64x4096, .f32⟩
  | .hbm, ⟨13, _⟩ => ⟨S_, .f32⟩
  | .hbm, ⟨14, _⟩ => ⟨S64x4096, .f32⟩
  | .hbm, ⟨15, _⟩ => ⟨S64x4096, .f32⟩
  | .hbm, ⟨16, _⟩ => ⟨S_, .f32⟩
  | .hbm, ⟨17, _⟩ => ⟨S64x4096, .f32⟩
  | .hbm, ⟨18, _⟩ => ⟨S64x4096, .f32⟩
  | .hbm, ⟨19, _⟩ => ⟨S64x4096, .f32⟩
  | .hbm, ⟨20, _⟩ => ⟨S_, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64x1, .f32⟩
  | .hbm, ⟨26, _⟩ => ⟨S64x4096, .f32⟩
  | .hbm, ⟨27, _⟩ => ⟨S64x4096, .f32⟩
  | .hbm, ⟨28, _⟩ => ⟨S64x4096, .f32⟩
  | .hbm, ⟨29, _⟩ => ⟨S_, .f32⟩
  | .hbm, ⟨30, _⟩ => ⟨S64, .f32⟩
  | .hbm, ⟨31, _⟩ => ⟨S64x1, .f32⟩
  | .hbm, ⟨32, _⟩ => ⟨S64x4096, .f32⟩
  | .hbm, ⟨33, _⟩ => ⟨S64x4096, .f32⟩
  | .hbm, ⟨34, _⟩ => ⟨S64x256, .f32⟩
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Proof.Pool.Row.lean ====
/- Attention pooling of ONE sequence as a function of its entries, in extended reals: the score of a position, the
   masked score, its largest value, the weights and their sum. Two orders of normalising are stated, the kernel's
   (sum the weighted rows, then multiply by one over the sum of the weights) and the reference's (divide each weight
   by their sum first), and proved equal when the projection vector `u` is finite. -/
module

public import Idealize.ShloMosaic.PureOps.Ideal.Laws
public import Mathlib.Data.EReal.Inv

@[expose] public section

noncomputable section

namespace Cert.Pool

open Idealize.ShloMosaic

/-- The literal `1.0` of the programs. -/
abbrev one : EReal := Ideal.ofBits .f32 0x3F800000#32

/-- The literal `-1e9` of the programs. -/
abbrev big : EReal := Ideal.ofBits .f32 0xCE6E6B28#32

/-- The literal minus infinity at which the programs' maxima start. -/
abbrev low : EReal := Ideal.ofBits .f32 0xFF800000#32

variable {T D U : ℕ}

/-- The hidden value of position `t` at unit `k`: `tanh` of the row's projection plus the bias. -/
def hid (x : Fin T → Fin D → EReal) (w : Fin D → Fin U → EReal) (b : Fin U → EReal) (t : Fin T) (k : Fin U) : EReal :=
  Ideal.tanh ((∑ d, x t d * w d k) + b k)

/-- The masked score of position `t`. -/
def logit (x : Fin T → Fin D → EReal) (mk : Fin T → BitVec 32) (w : Fin D → Fin U → EReal) (b u : Fin U → EReal)
    (t : Fin T) : EReal :=
  (∑ k, u k * hid x w b t k) + (one - ((mk t).toInt : ℝ)) * big

/-- The largest of the scores `l`. -/
def top (l : Fin T → EReal) : EReal := Finset.univ.fold max low l

/-- The weight of position `t` before normalisation. -/
def wt (l : Fin T → EReal) (t : Fin T) : EReal := Ideal.exp (l t - top l)

/-- The sum of the weights. -/
def tot (l : Fin T → EReal) : EReal := ∑ t, wt l t

/-- The kernel's order: sum the weighted entries, then multiply by one over the sum of the weights. -/
def pooledLate (l : Fin T → EReal) (x : Fin T → EReal) : EReal := (∑ t, wt l t * x t) * Ideal.div one (tot l)

/-- The reference's order: divide each weight by the sum of the weights, then sum the weighted entries. -/
def pooledEarly (l : Fin T → EReal) (x : Fin T → EReal) : EReal := ∑ t, x t * Ideal.div (wt l t) (tot l)

/-- The literal `1.0` is one. -/
theorem one_eq : one = 1 := by
  simp [one, Ideal.ofBits, Ideal.ieee]
  rw [← EReal.coe_mul]
  norm_num

/-- The literal `-1e9` is a real number. -/
theorem big_real : ∃ r : ℝ, big = (r : EReal) := by
  simp only [big, Ideal.ofBits, Ideal.ieee]
  norm_num
  rw [if_neg (by decide), if_neg (by decide)]
  exact ⟨_, rfl⟩

/-- The literal at which the maxima start is minus infinity. -/
theorem low_eq : low = ⊥ := by
  simp [low, Ideal.ofBits, Ideal.ieee]

/-- `tanh` of any extended real is a real number. -/
theorem tanh_real (z : EReal) : ∃ r : ℝ, Ideal.tanh z = (r : EReal) := by
  induction z with
  | bot => exact ⟨-1, by simp⟩
  | top => exact ⟨1, by simp⟩
  | coe r => exact ⟨_, Ideal.tanh_coe r⟩

/-- A finite sum of real numbers, read as an extended real, is the sum of the extended reals. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- A finite sum of real numbers is a real number. -/
theorem sum_real {ι : Type} (s : Finset ι) (f : ι → EReal) (h : ∀ i, ∃ r : ℝ, f i = (r : EReal)) :
    ∃ r : ℝ, ∑ i ∈ s, f i = (r : EReal) := by
  choose g hg using h
  exact ⟨∑ i ∈ s, g i, by rw [coe_sum]; exact Finset.sum_congr rfl fun i _ => hg i⟩

/-- Where `u` is finite, every masked score is a real number, whatever the inputs, weights, bias and mask. -/
theorem logit_real (x : Fin T → Fin D → EReal) (mk : Fin T → BitVec 32) (w : Fin D → Fin U → EReal)
    (b u : Fin U → EReal) (hu : ∀ k, ∃ r : ℝ, u k = (r : EReal)) (t : Fin T) :
    ∃ r : ℝ, logit x mk w b u t = (r : EReal) := by
  obtain ⟨c, hc⟩ := big_real
  obtain ⟨s, hs⟩ := sum_real Finset.univ (fun k => u k * hid x w b t k) (fun k => by
    obtain ⟨p, hp⟩ := hu k
    obtain ⟨q, hq⟩ := tanh_real ((∑ d, x t d * w d k) + b k)
    exact ⟨p * q, by rw [hp, hid, hq, EReal.coe_mul]⟩)
  refine ⟨s + (1 - ((mk t).toInt : ℝ)) * c, ?_⟩
  rw [logit, hs, hc, one_eq]
  push_cast
  rfl

/-- The largest of at least one real score is a real number. -/
theorem top_real [NeZero T] (l : Fin T → EReal) (h : ∀ t, ∃ r : ℝ, l t = (r : EReal)) :
    ∃ r : ℝ, top l = (r : EReal) := by
  have key : ∀ s : Finset (Fin T), s.fold max low l = ⊥ ∧ s = ∅ ∨ ∃ r : ℝ, s.fold max low l = (r : EReal) := by
    intro s
    induction s using Finset.induction_on with
    | empty => exact .inl ⟨by rw [Finset.fold_empty]; exact low_eq, rfl⟩
    | insert a s ha ih =>
      right
      rw [Finset.fold_insert ha]
      obtain ⟨p, hp⟩ := h a
      rcases ih with ⟨e, -⟩ | ⟨r, e⟩
      · exact ⟨p, by rw [e, hp]; exact max_eq_left bot_le⟩
      · exact ⟨max p r, by rw [e, hp]; exact (EReal.coe_strictMono.monotone.map_max).symm⟩
  rcases key Finset.univ with ⟨-, e⟩ | e
  · exact absurd e (Finset.univ_nonempty (α := Fin T)).ne_empty
  · exact e

/-- Where the scores are real, every weight is a positive real number. -/
theorem wt_real [NeZero T] (l : Fin T → EReal) (h : ∀ t, ∃ r : ℝ, l t = (r : EReal)) (t : Fin T) :
    ∃ r : ℝ, 0 < r ∧ wt l t = (r : EReal) := by
  obtain ⟨p, hp⟩ := h t
  obtain ⟨q, hq⟩ := top_real l h
  exact ⟨Real.exp (p - q), Real.exp_pos _, by rw [wt, hp, hq, ← EReal.coe_sub, Ideal.exp_coe]⟩

/-- Where the scores are real, the sum of the weights is a positive real number. -/
theorem tot_real [NeZero T] (l : Fin T → EReal) (h : ∀ t, ∃ r : ℝ, l t = (r : EReal)) :
    ∃ r : ℝ, 0 < r ∧ tot l = (r : EReal) := by
  choose g hp hg using wt_real l h
  refine ⟨∑ t, g t, Finset.sum_pos (fun t _ => hp t) Finset.univ_nonempty, ?_⟩
  rw [tot, coe_sum]
  exact Finset.sum_congr rfl fun t _ => hg t

/-- Multiplication by a nonnegative real number distributes over a finite sum of extended reals. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hc) (EReal.coe_ne_top c) _ _

/-- Normalising after the weighted sum is normalising before it, for real scores and ANY entries, infinite ones
    too: the factor is a positive real number. -/
theorem pooledLate_eq_pooledEarly [NeZero T] (l : Fin T → EReal) (h : ∀ t, ∃ r : ℝ, l t = (r : EReal))
    (x : Fin T → EReal) : pooledLate l x = pooledEarly l x := by
  obtain ⟨s, hs, e⟩ := tot_real l h
  have hs' : s ≠ 0 := hs.ne'
  rw [pooledLate, pooledEarly, e, Ideal.div_coe hs', one_eq, one_mul, sum_mul_real _ _ _ (by positivity)]
  refine Finset.sum_congr rfl fun t _ => ?_
  rw [Ideal.div_coe hs', mul_comm (wt l t) (x t), mul_assoc]

end Cert.Pool

end
-- ==== Proof.Pool.Body.lean ====
/- What the kernel's body computes for one sequence of its block, read entry by entry in extended reals: its three
   matrix products as sums over the contracted axis, a row's maximum and sum spread over the row again, then the
   scores and the pooled row. -/
module

public import proofs.«01_k».proof.Proof.Gen.KernelIdeal.Skeleton
public import proofs.«01_k».proof.Proof.Pool.Row
public import Idealize.ShloMosaic.Lib.Pipeline.Value
public import Idealize.ShloMosaic.Lib.ValueIdx

@[expose] public section

noncomputable section

namespace Cert.Pool

open Idealize.ShloMosaic Idealize.ShloMosaic.ValueIdx Cert.KernelIdeal Cert.KernelIdeal.Gen

/-- The projection product at position `t` and unit `k`: the sum over the input's features. -/
theorem proj_apply (L : FVec Ideal S4096x256 .bf16) (R : FVec Ideal S256x64 .bf16) (t : Fin 4096) (k : Fin 64) :
    matmul dot_S4096x256_S256x64_S4096x64_1_0_0_1_n_n none L R (constant S4096x64 .f32 0x00000000#32) (ix2 t k)
      = ∑ d : Fin 256, L (ix2 t d) * R (ix2 d k) := by
  refine (Ideal.matmul_constant_zero_apply _ none L R _).trans ?_
  rw [← Equiv.sum_comp (contrEquiv1 dot_S4096x256_S256x64_S4096x64_1_0_0_1_n_n 256 rfl rfl).symm]
  refine Finset.sum_congr rfl fun d _ => ?_
  have hd := contrEquiv1_symm_val dot_S4096x256_S256x64_S4096x64_1_0_0_1_n_n 256 rfl rfl d
  refine congrArg₂ (· * ·) (congrArg L (funext fun a => Fin.ext ?_)) (congrArg R (funext fun a => Fin.ext ?_))
  · match a with
    | ⟨0, _⟩ => rfl
    | ⟨1, _⟩ => exact (DotDims.lhsIdx_val_of_single _ rfl _ _).trans hd
  · match a with
    | ⟨0, _⟩ => exact (DotDims.rhsIdx_val_of_single _ rfl _ _).trans hd
    | ⟨1, _⟩ => rfl

/-- The scores' product at position `t`: the sum over the units. -/
theorem score_apply (L : FVec Ideal S1x64 .bf16) (R : FVec Ideal S4096x64 .bf16) (t : Fin 4096) :
    matmul dot_S1x64_S4096x64_S1x4096_1_1_0_0_n_n none L R (constant S1x4096 .f32 0x00000000#32) (ix2 0 t)
      = ∑ k : Fin 64, L (ix2 0 k) * R (ix2 t k) := by
  refine (Ideal.matmul_constant_zero_apply _ none L R _).trans ?_
  rw [← Equiv.sum_comp (contrEquiv1 dot_S1x64_S4096x64_S1x4096_1_1_0_0_n_n 64 rfl rfl).symm]
  refine Finset.sum_congr rfl fun d _ => ?_
  have hd := contrEquiv1_symm_val dot_S1x64_S4096x64_S1x4096_1_1_0_0_n_n 64 rfl rfl d
  refine congrArg₂ (· * ·) (congrArg L (funext fun a => Fin.ext ?_)) (congrArg R (funext fun a => Fin.ext ?_))
  · match a with
    | ⟨0, _⟩ => rfl
    | ⟨1, _⟩ => exact (DotDims.lhsIdx_val_of_single _ rfl _ _).trans hd
  · match a with
    | ⟨0, _⟩ => rfl
    | ⟨1, _⟩ => exact (DotDims.rhsIdx_val_of_single _ rfl _ _).trans hd

/-- The weighted sum's product at feature `d`: the sum over the positions. -/
theorem mix_apply (L : FVec Ideal S1x4096 .bf16) (R : FVec Ideal S4096x256 .bf16) (d : Fin 256) :
    matmul dot_S1x4096_S4096x256_S1x256_1_0_0_1_n_n none L R (constant S1x256 .f32 0x00000000#32) (ix2 0 d)
      = ∑ t : Fin 4096, L (ix2 0 t) * R (ix2 t d) := by
  refine (Ideal.matmul_constant_zero_apply _ none L R _).trans ?_
  rw [← Equiv.sum_comp (contrEquiv1 dot_S1x4096_S4096x256_S1x256_1_0_0_1_n_n 4096 rfl rfl).symm]
  refine Finset.sum_congr rfl fun t _ => ?_
  have hd := contrEquiv1_symm_val dot_S1x4096_S4096x256_S1x256_1_0_0_1_n_n 4096 rfl rfl t
  refine congrArg₂ (· * ·) (congrArg L (funext fun a => Fin.ext ?_)) (congrArg R (funext fun a => Fin.ext ?_))
  · match a with
    | ⟨0, _⟩ => rfl
    | ⟨1, _⟩ => exact (DotDims.lhsIdx_val_of_single _ rfl _ _).trans hd
  · match a with
    | ⟨0, _⟩ => exact (DotDims.rhsIdx_val_of_single _ rfl _ _).trans hd
    | ⟨1, _⟩ => rfl

/-- A block of one sequence seen as a matrix: entry (t, d) is the block's (0, t, d). -/
theorem seq_apply {α : Type} (v : S1x4096x256.Idx → α) (t : Fin 4096) (d : Fin 256) :
    shapeCast S4096x256 v shapeCasts_S1x4096x256_S4096x256 (ix2 t d) = v (ix3 0 t d) := by
  refine (shapeCast_dropUnit_apply (![4096, 256] : Fin 2 → ℕ) v shapeCasts_S1x4096x256_S4096x256 (ix2 t d)).trans ?_
  exact congrArg v (funext fun a => by match a with | ⟨0, _⟩ => rfl | ⟨1, _⟩ => rfl | ⟨2, _⟩ => rfl)

/-- A mask block of one sequence seen as a row: entry (0, t) is the block's (0, 0, t). -/
theorem mask_apply {α : Type} (v : S1x1x4096.Idx → α) (t : Fin 4096) :
    shapeCast S1x4096 v shapeCasts_S1x1x4096_S1x4096 (ix2 0 t) = v (ix3 0 0 t) := by
  refine (shapeCast_dropUnit_apply (![1, 4096] : Fin 2 → ℕ) v shapeCasts_S1x1x4096_S1x4096 (ix2 0 t)).trans ?_
  exact congrArg v (funext fun a => by match a with | ⟨0, _⟩ => rfl | ⟨1, _⟩ => rfl | ⟨2, _⟩ => rfl)

/-- The pooled row seen as a block: entry (0, 0, d) is the row's (0, d). -/
theorem row_apply {α : Type} (v : S1x256.Idx → α) (d : Fin 256) :
    shapeCast S1x1x256 v shapeCasts_S1x256_S1x1x256 (ix3 0 0 d) = v (ix2 0 d) := by
  refine (shapeCast_addUnit_apply (![1, 256] : Fin 2 → ℕ) v shapeCasts_S1x256_S1x1x256 (ix3 0 0 d)).trans ?_
  exact congrArg v (funext fun a => by match a with | ⟨0, _⟩ => rfl | ⟨1, _⟩ => rfl)

/-- The bias row spread over the positions. -/
theorem bias_apply {α : Type} (v : S1x64.Idx → α) (t : Fin 4096) (k : Fin 64) :
    broadcastTo S4096x64 v broadcasts_S1x64_S4096x64 (ix2 t k) = v (ix2 0 k) :=
  broadcastTo_apply v _ _ _ fun a => by match a with | ⟨0, _⟩ => rfl | ⟨1, _⟩ => rfl

/-- One number spread over the positions. -/
theorem spread_apply {α : Type} (v : S1x1.Idx → α) (t : Fin 4096) :
    broadcastTo S1x4096 v broadcasts_S1x1_S1x4096 (ix2 0 t) = v (ix2 0 0) :=
  broadcastTo_apply v _ _ _ fun a => by match a with | ⟨0, _⟩ => rfl | ⟨1, _⟩ => rfl

/-- One number spread over the features. -/
theorem spreadOut_apply {α : Type} (v : S1x1.Idx → α) (d : Fin 256) :
    broadcastTo S1x256 v broadcasts_S1x1_S1x256 (ix2 0 d) = v (ix2 0 0) :=
  broadcastTo_apply v _ _ _ fun a => by match a with | ⟨0, _⟩ => rfl | ⟨1, _⟩ => rfl

/-- One number as a 1×1 matrix. -/
theorem unit_apply {α : Type} (v : S1.Idx → α) :
    shapeCast S1x1 v shapeCasts_S1_S1x1 (ix2 0 0) = v (ix1 0) := by
  refine (shapeCast_addUnit_apply (![1] : Fin 1 → ℕ) v shapeCasts_S1_S1x1 (ix2 0 0)).trans ?_
  exact congrArg v (funext fun a => by match a with | ⟨0, _⟩ => rfl)

/-- A row's maximum is `top` of its entries. -/
theorem rowMax_apply (y : FVec Ideal S1x4096 .f32) :
    multiReduction .maximumf [1] S1 y 0xFF800000#32 reduces_S1x4096_S1 (.inl rfl) rfl (ix1 0)
      = top fun t => y (ix2 0 t) := by
  refine (Ideal.multiReduction_maximumf_single y _ _ _ _ _).trans ?_
  refine congrArg (Finset.fold max low · (Finset.univ : Finset (Fin 4096))) (funext fun t => ?_)
  exact congrArg y (funext fun a => Fin.ext (by match a with | ⟨0, _⟩ => rfl | ⟨1, _⟩ => rfl))

/-- A row's sum is the sum of its entries. -/
theorem rowSum_apply (y : FVec Ideal S1x4096 .f32) :
    multiReduction .add [1] S1 y 0x00000000#32 reduces_S1x4096_S1 (.inl rfl) rfl (ix1 0)
      = ∑ t : Fin 4096, y (ix2 0 t) := by
  refine (Ideal.multiReduction_add_single y _ _ _ _ _).trans ?_
  refine Finset.sum_congr rfl fun t _ => ?_
  exact congrArg y (funext fun a => Fin.ext (by match a with | ⟨0, _⟩ => rfl | ⟨1, _⟩ => rfl))

/-- The scores the body computes for a sequence `x`, before the mask. -/
theorem pay4_apply (x : FVec Ideal S1x4096x256 .f32) (w : FVec Ideal S256x64 .bf16) (b : FVec Ideal S1x64 .f32)
    (u : FVec Ideal S1x64 .bf16) (t : Fin 4096) :
    k0_pay4 (F := Ideal) x w b u (ix2 0 t)
      = ∑ k : Fin 64, u (ix2 0 k)
          * hid (fun t d => x (ix3 0 t d)) (fun d k => w (ix2 d k)) (fun k => b (ix2 0 k)) t k := by
  unfold k0_pay4 k0_pay2
  dsimp only
  rw [score_apply]
  refine Finset.sum_congr rfl fun k _ => ?_
  rw [shapeCast_self, shapeCast_self, shapeCast_self, truncf_apply]
  refine congrArg (u (ix2 0 k) * ·) ?_
  show Ideal.tanh (_ + _) = Ideal.tanh _
  rw [proj_apply, bias_apply]
  refine congrArg (fun z => Ideal.tanh (z + b (ix2 0 k))) (Finset.sum_congr rfl fun d _ => ?_)
  rw [truncf_apply, seq_apply]

/-- The second sequence's scores are computed as the first one's. -/
theorem pay8_eq (x : FVec Ideal S1x4096x256 .f32) (w : FVec Ideal S256x64 .bf16) (b : FVec Ideal S1x64 .f32)
    (u : FVec Ideal S1x64 .bf16) :
    k0_pay8 (F := Ideal) (k0_pay7 (F := Ideal) x w b) u = k0_pay4 (F := Ideal) x w b u := rfl

/-- The row the body stores for a sequence: from the scores `v`, the mask `mk` and the kept copy `x` of the inputs, the
    masked scores' weighted sum of the inputs, normalised at the end. -/
theorem pay9_apply (v : FVec Ideal S1x4096 .f32) (mk : IVec S1x1x4096 32) (x : FVec Ideal S1x4096x256 .bf16)
    (d : Fin 256) :
    k0_pay9 (F := Ideal) v mk x (ix3 0 0 d)
      = pooledLate (fun t => v (ix2 0 t) + (one - ((mk (ix3 0 0 t)).toInt : ℝ)) * big) (fun t => x (ix3 0 t d)) := by
  unfold k0_pay9
  dsimp only
  rw [row_apply, mulf_apply, mix_apply, spreadOut_apply, divf_apply, unit_apply, rowSum_apply]
  set y : FVec Ideal S1x4096 .f32 := addf v (mulf (subf (broadcast S1x4096 (Scalar.ofBits .f32 0x3F800000#32))
    (sitofp .f32 (shapeCast S1x4096 mk shapeCasts_S1x1x4096_S1x4096)))
    (broadcast S1x4096 (Scalar.ofBits .f32 0xCE6E6B28#32))) with hy
  have hl : (fun t : Fin 4096 => v (ix2 0 t) + (one - ((mk (ix3 0 0 t)).toInt : ℝ)) * big)
      = fun t => y (ix2 0 t) := by
    funext t
    rw [hy, addf_apply, mulf_apply, subf_apply, sitofp_apply, mask_apply]
    rfl
  rw [hl]
  have hw : ∀ t : Fin 4096, exp (subf y (broadcastTo S1x4096 (shapeCast S1x1 (multiReduction .maximumf [1] S1 y
      0xFF800000#32 reduces_S1x4096_S1 (.inl rfl) rfl) shapeCasts_S1_S1x1) broadcasts_S1x1_S1x4096)) (ix2 0 t)
      = wt (fun t => y (ix2 0 t)) t := by
    intro t
    show Ideal.exp (_ - _) = Ideal.exp _
    rw [spread_apply, unit_apply, rowMax_apply]
  refine congrArg₂ (· * ·) (Finset.sum_congr rfl fun t _ => ?_)
    (congrArg (Ideal.div one) (Finset.sum_congr rfl fun t _ => hw t))
  rw [truncf_apply, hw, seq_apply]

/-- The second sequence's row is computed as the first one's. -/
theorem pay1_eq (v : FVec Ideal S1x4096 .f32) (mk : IVec S1x1x4096 32) (x : FVec Ideal S1x4096x256 .bf16) :
    k0_pay1 (F := Ideal) v (k0_pay10 (F := Ideal) mk) (k0_pay11 (F := Ideal)) x = k0_pay9 (F := Ideal) v mk x := rfl

end Cert.Pool

end
-- ==== Proof.Pool.Block.lean ====
/- What the kernel's body leaves in its output block at a grid point, entry by entry: each of the block's two sequences
   is pooled from the point's input blocks, the weighted sum reading the copy of the inputs that the body kept. -/
module

public import proofs.«01_k».proof.Proof.Gen.KernelIdeal.Frame
public import proofs.«01_k».proof.Proof.Pool.Body
public import Idealize.ShloMosaic.Lib.Pipeline.ValueKit.Tiles

@[expose] public section

-- the positions' axis has 4096 coordinates
set_option maxRecDepth 16384

noncomputable section

namespace Cert.Pool

open Idealize.ShloMosaic Idealize.ShloMosaic.TcCoe Idealize.ShloMosaic.Tactic Idealize.ShloMosaic.ValueIdx
open Cert.KernelIdeal Cert.KernelIdeal.Gen Idealize.SL.Sem

/-- The pooled row of sequence `j` of a block, at feature `d`, from the block's inputs, mask and parameters. -/
def blockOut (X : FVec Ideal S2x4096x256 .f32) (M : IVec S2x1x4096 32) (W : FVec Ideal S256x64 .bf16)
    (B : FVec Ideal S1x64 .f32) (U : FVec Ideal S1x64 .bf16) (j : Fin 2) (d : Fin 256) : EReal :=
  pooledLate (logit (fun t d => X (ix3 j t d)) (fun t => M (ix3 j 0 t)) (fun d k => W (ix2 d k)) (fun k => B (ix2 0 k))
    (fun k => U (ix2 0 k))) (fun t => X (ix3 j t d))

/-- What the body stores of a sequence's inputs for later is those inputs. -/
theorem pay3_eq (v : FVec Ideal S1x4096x256 .f32) : k0_pay3 (F := Ideal) v = v :=
  shapeCast_shapeCast v shapeCasts_S1x4096x256_S4096x256 shapeCasts_S4096x256_S1x4096x256

/-- The same of the second sequence. -/
theorem pay6_eq (v : FVec Ideal S1x4096x256 .f32) : k0_pay6 (F := Ideal) v = v :=
  shapeCast_shapeCast v shapeCasts_S1x4096x256_S4096x256 shapeCasts_S4096x256_S1x4096x256

/-- The row stored for sequence `j`, from the loads of the block's sequence `j`, is `blockOut`. -/
theorem stored_apply (X : FVec Ideal S2x4096x256 .f32) (M : IVec S2x1x4096 32) (W : FVec Ideal S256x64 .bf16)
    (B : FVec Ideal S1x64 .f32) (U : FVec Ideal S1x64 .bf16) (j : Fin 2) (x : FVec Ideal S1x4096x256 .f32)
    (mk : IVec S1x1x4096 32) (hx : ∀ t d, x (ix3 0 t d) = X (ix3 j t d)) (hm : ∀ t, mk (ix3 0 0 t) = M (ix3 j 0 t))
    (d : Fin 256) :
    k0_pay9 (F := Ideal) (k0_pay4 (F := Ideal) x W B U) mk x (ix3 0 0 d) = blockOut X M W B U j d := by
  rw [pay9_apply, blockOut]
  refine congrArg₂ pooledLate (funext fun t => ?_) (funext fun t => hx t d)
  rw [pay4_apply, logit, hm]
  refine congrArg (· + _) (Finset.sum_congr rfl fun k _ => ?_)
  simp only [hx]

/-- Writes that each store what `X` holds at their rectangle leave `X` where they cover. -/
theorem canon_of_ld {S : Shape} {e : EltTy} (X : S.Idx → Elt Ideal e) (L : List (View.Piece (Elt Ideal) S e))
    (hL : ∀ p ∈ L, p.2 = View.ld X p.1) (y : S.Idx) (hy : ∃ p ∈ L, y ∈ p.1.set) : View.canon L y = X y :=
  View.canon_apply_of_pieces X L (fun p hp x => by rw [hL p hp]; rfl) y hy

/-- A load, covered by two writes that each stored what `X` holds at their rectangle, reads `X`. -/
theorem kept_eq {sig : RefSig} {κ : Kind} {sp : Space} {S : Shape} {e : EltTy} (v : View sig κ sp S e)
    (X : S.Idx → Elt Ideal e) (r₁ r₀ r : Rect S) (w₁ : r₁.shape.Idx → Elt Ideal e) (w₀ : r₀.shape.Idx → Elt Ideal e)
    (h₁ : w₁ = View.ld X r₁) (h₀ : w₀ = View.ld X r₀)
    (h : ∀ y : r.toLoadRect.shape.Idx, r.toLoadRect.idx y ∈ r₁.set ∨ r.toLoadRect.idx y ∈ r₀.set) :
    v.readCov [⟨r₁, w₁⟩, ⟨r₀, w₀⟩] r.toLoadRect = View.ld X r := by
  have hc : ∀ y : r.toLoadRect.shape.Idx, ∃ p ∈ ([⟨r₁, w₁⟩, ⟨r₀, w₀⟩] : List (View.Piece (Elt Ideal) S e)),
      r.toLoadRect.idx y ∈ p.1.set := by
    intro y
    rcases h y with hy | hy
    · exact ⟨_, List.mem_cons_self, hy⟩
    · exact ⟨_, List.mem_cons_of_mem _ List.mem_cons_self, hy⟩
  rw [View.readCov_eq_canon _ _ _ hc]
  funext y
  refine canon_of_ld X _ ?_ _ (hc y)
  intro p hp
  simp only [List.mem_cons, List.not_mem_nil, or_false] at hp
  rcases hp with rfl | rfl
  · exact h₁
  · exact h₀

/-- Entry (0, 0, d) of the rectangle at row `j` of the block is the block's entry (j, 0, d). -/
theorem emb_row (j : Fin 2) (off : Fin 3 → ℕ) (ho : off = ![j.val, 0, 0])
    (inb : ∀ a, off a + (![1, 1, 256] : Fin 3 → ℕ) a ≤ S2x1x256.size a) (d : Fin 256) :
    (Rect.unit (s := S2x1x256) off ![1, 1, 256] inb).emb (ix3 0 0 d : S1x1x256.Idx) = (ix3 j 0 d : S2x1x256.Idx) := by
  subst ho
  funext a
  refine Fin.ext ((Rect.idx_unit_val _ _ _ _ a).trans ?_)
  match a with
  | ⟨0, _⟩ => rfl
  | ⟨1, _⟩ => rfl
  | ⟨2, _⟩ => exact Nat.zero_add _

/-- The body's two stores, one per sequence, read back at (j, 0, d). -/
theorem rows_apply (g : Fin 2 → Fin 256 → EReal) (w₁ w₀ : S1x1x256.Idx → Elt Ideal .f32)
    (h₁ : ∀ d, w₁ (ix3 0 0 d) = g 1 d) (h₀ : ∀ d, w₀ (ix3 0 0 d) = g 0 d) (j : Fin 2) (d : Fin 256) :
    View.canon (Val := Elt Ideal) (s := S2x1x256) (e := .f32)
      [⟨Rect.unit ![1, 0, 0] ![1, 1, 256] inb_S2x1x256_S1x1x256_1_0_0, w₁⟩,
        ⟨Rect.unit ![0, 0, 0] ![1, 1, 256] inb_S2x1x256_S1x1x256_0_0_0, w₀⟩] (ix3 j 0 d) = g j d := by
  obtain rfl | rfl : j = 0 ∨ j = 1 := by revert j; decide
  · rw [← h₀ d, View.canon_cons_of_not_mem]
    · refine Eq.trans (congrArg _ (emb_row 0 ![0, 0, 0] rfl inb_S2x1x256_S1x1x256_0_0_0 d).symm) ?_
      exact View.canon_cons_emb (Val := Elt Ideal) (s := S2x1x256) (e := .f32)
        (Rect.unit (s := S2x1x256) ![0, 0, 0] ![1, 1, 256] inb_S2x1x256_S1x1x256_0_0_0) w₀ _ _
    · intro hm
      have h := (Rect.mem_set_unit (inb := inb_S2x1x256_S1x1x256_1_0_0)).mp hm 0
      exact absurd h.1 (by simp [ix3])
  · rw [← h₁ d]
    refine Eq.trans (congrArg _ (emb_row 1 ![1, 0, 0] rfl inb_S2x1x256_S1x1x256_1_0_0 d).symm) ?_
    exact View.canon_cons_emb (Val := Elt Ideal) (s := S2x1x256) (e := .f32)
        (Rect.unit (s := S2x1x256) ![1, 0, 0] ![1, 1, 256] inb_S2x1x256_S1x1x256_1_0_0) w₁ _ _

/-- The rectangle of sequence 0 of the inputs' block. -/
abbrev seq0 : Rect S2x4096x256 := Rect.unit ![0, 0, 0] ![1, 4096, 256] inb_S2x4096x256_S1x4096x256_0_0_0

/-- The rectangle of sequence 1 of the inputs' block. -/
abbrev seq1 : Rect S2x4096x256 := Rect.unit ![1, 0, 0] ![1, 4096, 256] inb_S2x4096x256_S1x4096x256_1_0_0

/-- A load of sequence 0 reads the block's entries of sequence 0. -/
theorem ld_seq0 (X : FVec Ideal S2x4096x256 .f32) (t : Fin 4096) (d : Fin 256) :
    View.ld (Val := Elt Ideal) (e' := .f32) X seq0 (ix3 0 t d : S1x4096x256.Idx) = X (ix3 0 t d) :=
  congrArg X (funext fun a => Fin.ext ((Rect.idx_unit_val _ _ _ _ a).trans (by
    match a with
    | ⟨0, _⟩ => rfl
    | ⟨1, _⟩ => exact Nat.zero_add _
    | ⟨2, _⟩ => exact Nat.zero_add _)))

/-- A load of sequence 1 reads the block's entries of sequence 1. -/
theorem ld_seq1 (X : FVec Ideal S2x4096x256 .f32) (t : Fin 4096) (d : Fin 256) :
    View.ld (Val := Elt Ideal) (e' := .f32) X seq1 (ix3 0 t d : S1x4096x256.Idx) = X (ix3 1 t d) :=
  congrArg X (funext fun a => Fin.ext ((Rect.idx_unit_val _ _ _ _ a).trans (by
    match a with
    | ⟨0, _⟩ => rfl
    | ⟨1, _⟩ => exact Nat.zero_add _
    | ⟨2, _⟩ => exact Nat.zero_add _)))

/-- A load of sequence 0's mask reads the mask block's entries of sequence 0. -/
theorem ld_mask0 (M : IVec S2x1x4096 32) (t : Fin 4096) :
    View.ld (Val := Elt Ideal) (e' := .i32) M (Rect.unit ![0, 0, 0] ![1, 1, 4096] inb_S2x1x4096_S1x1x4096_0_0_0)
      (ix3 0 0 t : S1x1x4096.Idx) = M (ix3 0 0 t) :=
  congrArg M (funext fun a => Fin.ext ((Rect.idx_unit_val _ _ _ _ a).trans (by
    match a with
    | ⟨0, _⟩ => rfl
    | ⟨1, _⟩ => rfl
    | ⟨2, _⟩ => exact Nat.zero_add _)))

/-- A load of sequence 1's mask reads the mask block's entries of sequence 1. -/
theorem ld_mask1 (M : IVec S2x1x4096 32) (t : Fin 4096) :
    View.ld (Val := Elt Ideal) (e' := .i32) M (Rect.unit ![1, 0, 0] ![1, 1, 4096] inb_S2x1x4096_S1x1x4096_1_0_0)
      (ix3 0 0 t : S1x1x4096.Idx) = M (ix3 1 0 t) :=
  congrArg M (funext fun a => Fin.ext ((Rect.idx_unit_val _ _ _ _ a).trans (by
    match a with
    | ⟨0, _⟩ => rfl
    | ⟨1, _⟩ => rfl
    | ⟨2, _⟩ => exact Nat.zero_add _)))

/-- After both sequences are kept, a load of sequence 0 of the copy reads the inputs' sequence 0. -/
theorem kept0 (X : FVec Ideal S2x4096x256 .f32) :
    (View.whole cc0_scratch0).readCov (Val := Elt Ideal)
      [⟨seq1, k0_pay6 (F := Ideal) (View.ld (Val := Elt Ideal) (e' := .f32) X seq1)⟩,
        ⟨seq0, k0_pay3 (F := Ideal) (View.ld (Val := Elt Ideal) (e' := .f32) X seq0)⟩] seq0.toLoadRect
      = View.ld (Val := Elt Ideal) (e' := .f32) X seq0 :=
  kept_eq (e := .bf16) (View.whole cc0_scratch0) X seq1 seq0 seq0 _ _ (pay6_eq _) (pay3_eq _)
    fun y => .inr (seq0.idx_mem y)

/-- After both sequences are kept, a load of sequence 1 of the copy reads the inputs' sequence 1. -/
theorem kept1 (X : FVec Ideal S2x4096x256 .f32) :
    (View.whole cc0_scratch0).readCov (Val := Elt Ideal)
      [⟨seq1, k0_pay6 (F := Ideal) (View.ld (Val := Elt Ideal) (e' := .f32) X seq1)⟩,
        ⟨seq0, k0_pay3 (F := Ideal) (View.ld (Val := Elt Ideal) (e' := .f32) X seq0)⟩] seq1.toLoadRect
      = View.ld (Val := Elt Ideal) (e' := .f32) X seq1 :=
  kept_eq (e := .bf16) (View.whole cc0_scratch0) X seq1 seq0 seq1 _ _ (pay6_eq _) (pay3_eq _)
    fun y => .inl (seq1.idx_mem y)

variable (m : (ℓ : Loc nD τ sig) → Buf (Elt Ideal) ℓ)

/-- What the output's buffer holds after a grid point: at entry (j, 0, d), sequence `j` of the point's block pooled. -/
theorem outsAt_apply (c : Dev nD) (t : Fin cfg0.N) (j : Fin 2) (d : Fin 256) :
    outsAt0 m c t (ix3 j 0 d)
      = blockOut (iblk m c 0 t) (iblk m c 1 t) (iblk m c 2 t) (iblk m c 3 t) (iblk m c 4 t) j d := by
  unfold outsAt0 out0_A_5
  rw [View.read_writes_eq_canon _ _ _ (cover0_A_5 c _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread,
    (hs0_3 t).read_unread, (hs0_4 t).read_unread]
  generalize iblk m c 0 t = X, iblk m c 1 t = M, iblk m c 2 t = W, iblk m c 3 t = B, iblk m c 4 t = U
  rw [View.ld_unit_zero (S := S256x64) (by decide) inb_S256x64_S256x64_0_0 W,
    View.ld_unit_zero (S := S1x64) (by decide) inb_S1x64_S1x64_0_0 B,
    View.ld_unit_zero (S := S1x64) (by decide) inb_S1x64_S1x64_0_0 U]
  refine rows_apply (blockOut X M W B U) _ _ (fun d => ?_) (fun d => ?_) j d
  · refine Eq.trans ?_ (stored_apply X M W B U 1 _ _ (ld_seq1 X) (ld_mask1 M) d)
    exact congrArg (fun x => k0_pay9 (F := Ideal) (k0_pay4 (F := Ideal) _ W B U) _ x (ix3 0 0 d)) (kept1 X)
  · refine Eq.trans ?_ (stored_apply X M W B U 0 _ _ (ld_seq0 X) (ld_mask0 M) d)
    exact congrArg (fun x => k0_pay9 (F := Ideal) (k0_pay4 (F := Ideal) _ W B U) _ x (ix3 0 0 d)) (kept0 X)

end Cert.Pool

end
-- ==== Proof.Pool.Array.lean ====
/- The kernel's result array as a function of its arguments: the host operations around the region, the input blocks at
   coordinates, and the output array assembled from the blocks that the grid points write back. -/
module

public import proofs.«01_k».proof.Proof.Pool.Block
public import Idealize.ShloMosaic.Lib.Pipeline.ValueKit

@[expose] public section

noncomputable section

namespace Cert.Pool

open Idealize.ShloMosaic hiding ix1 ix2 ix3 eq_ix2 eq_ix3
open Idealize.ShloMosaic.TcCoe Idealize.ShloMosaic.Tactic Idealize.ShloMosaic.ValueIdx
open Cert.KernelIdeal Cert.KernelIdeal.Gen Idealize.SL.Sem

/-- The scores of sequence `i` over its positions, from the argument arrays. -/
def scores (x : FVec Ideal S64x4096x256 .f32) (mk : IVec S64x4096 32) (w : FVec Ideal S256x64 .f32)
    (b : FVec Ideal S64 .f32) (u : FVec Ideal S64x1 .f32) (i : Fin 64) : Fin 4096 → EReal :=
  logit (fun t d => x (ix3 i t d)) (fun t => mk (ix2 i t)) (fun d k => w (ix2 d k)) (fun k => b (ix1 k))
    (fun k => u (ix2 k 0))

/-- What the kernel computes: sequence `i` pooled at feature `d`, the weights normalised after the sum. -/
def kernelOut (x : FVec Ideal S64x4096x256 .f32) (mk : IVec S64x4096 32) (w : FVec Ideal S256x64 .f32)
    (b : FVec Ideal S64 .f32) (u : FVec Ideal S64x1 .f32) (i : Fin 64) (d : Fin 256) : EReal :=
  pooledLate (scores x mk w b u i) (fun t => x (ix3 i t d))

variable (m : (ℓ : Loc nD τ sig) → Buf (Elt Ideal) ℓ) (ρ : Dev nD → PrngReg)

/-- The region finds in its mask array the mask argument with an axis of length 1 put in. -/
theorem V_main_v0 (c : Dev nD) : V m c main_v0
    = shapeCast S64x1x4096 (m ((c : Thread nD τ).loc main_arg1) : IVec S64x4096 32) shapeCasts_S64x4096_S64x1x4096 := by
  simp only [V, V0, hostOps0, List.flatten_cons, List.flatten_nil, List.append_nil, StableHlo.after_cons, StableHlo.after_nil]
  rfl

/-- The region finds in its bias array the bias argument as a row. -/
theorem V_main_v1 (c : Dev nD) : V m c main_v1
    = shapeCast S1x64 (m ((c : Thread nD τ).loc main_arg3) : FVec Ideal S64 .f32) shapeCasts_S64_S1x64 := by
  simp only [V, V0, hostOps0, List.flatten_cons, List.flatten_nil, List.append_nil, StableHlo.after_cons, StableHlo.after_nil]
  rfl

/-- The region finds in its scoring array the scoring argument as a row: the change of format is the identity. -/
theorem V_main_v3 (c : Dev nD) : V m c main_v3
    = shapeCast S1x64 (m ((c : Thread nD τ).loc main_arg4) : FVec Ideal S64x1 .f32) shapeCasts_S64x1_S1x64 := by
  simp only [V, V0, hostOps0, List.flatten_cons, List.flatten_nil, List.append_nil, StableHlo.after_cons, StableHlo.after_nil]
  rfl

/-- The region finds in its projection array the projection argument: the change of format is the identity. -/
theorem V_main_v4 (c : Dev nD) : V m c main_v4 = (m ((c : Thread nD τ).loc main_arg2) : FVec Ideal S256x64 .f32) := by
  simp only [V, V0, hostOps0, List.flatten_cons, List.flatten_nil, List.append_nil, StableHlo.after_cons, StableHlo.after_nil]
  rfl

/-- The inputs' block of point `t` is block `t` along the sequences. -/
theorem index0 : ∀ t : Fin cfg0.N, win0_0.index t = ![t.val, 0, 0] :=
  (by decide +kernel : ∀ t : Fin grid0.N, win0_0.index t = ![t.val, 0, 0])
/-- The mask's block of point `t` is block `t` along the sequences. -/
theorem index1 : ∀ t : Fin cfg0.N, win0_1.index t = ![t.val, 0, 0] :=
  (by decide +kernel : ∀ t : Fin grid0.N, win0_1.index t = ![t.val, 0, 0])
/-- The projection's block is the whole array at every point. -/
theorem index2 : ∀ t : Fin cfg0.N, win0_2.index t = ![0, 0] :=
  (by decide +kernel : ∀ t : Fin grid0.N, win0_2.index t = ![0, 0])
/-- The bias's block is the whole array at every point. -/
theorem index3 : ∀ t : Fin cfg0.N, win0_3.index t = ![0, 0] :=
  (by decide +kernel : ∀ t : Fin grid0.N, win0_3.index t = ![0, 0])
/-- The scoring vector's block is the whole array at every point. -/
theorem index4 : ∀ t : Fin cfg0.N, win0_4.index t = ![0, 0] :=
  (by decide +kernel : ∀ t : Fin grid0.N, win0_4.index t = ![0, 0])
/-- The output's block of point `t` is block `t` along the sequences. -/
theorem index5 : ∀ t : Fin cfg0.N, win0_5.index t = ![t.val, 0, 0] :=
  (by decide +kernel : ∀ t : Fin grid0.N, win0_5.index t = ![t.val, 0, 0])

/-- The sequence that grid point `t` handles as its `j`-th. -/
def seqOf (t : Fin cfg0.N) (j : Fin 2) : Fin 64 := ⟨t.val * 2 + j.val, by
  have := t.isLt; have h : cfg0.N = 32 := N_0; omega⟩

/-- The inputs' block of point `t` at (j, t', d): the inputs of the point's `j`-th sequence. -/
theorem block0 (c : Dev nD) (t : Fin cfg0.N) (j : Fin 2) (t' : Fin 4096) (d : Fin 256) :
    iblk m c 0 t (ix3 j t' d) = m ((c : Thread nD τ).loc main_arg0) (ix3 (seqOf t j) t' d) := by
  rw [← V_main_arg0 m c]
  blk_simp [iblk]
  refine congrArg (V m c main_arg0) ?_
  blk_ext [index0, seqOf]

/-- The mask's block of point `t` at (j, 0, t'): the mask of the point's `j`-th sequence. -/
theorem block1 (c : Dev nD) (t : Fin cfg0.N) (j : Fin 2) (t' : Fin 4096) :
    iblk m c 1 t (ix3 j 0 t') = m ((c : Thread nD τ).loc main_arg1) (ix2 (seqOf t j) t') := by
  have h : iblk m c 1 t (ix3 j 0 t') = V m c main_v0 (ix3 (seqOf t j) 0 t') := by
    blk_simp [iblk]
    refine congrArg (V m c main_v0) ?_
    blk_ext [index1, seqOf]
  rw [h, V_main_v0]
  refine shapeCast_apply _ _ _ (ix2 (seqOf t j) t' : S64x4096.Idx) ?_
  show (S64x4096.rowMajor _).val = _
  simp only [Shape.rowMajor_val_one, Shape.rowMajor_val_two, Shape.rowMajor_val_three]
  simp [ix1, ix2, ix3]

/-- The projection's block of any point is the projection argument. -/
theorem block2 (c : Dev nD) (t : Fin cfg0.N) (d : Fin 256) (k : Fin 64) :
    iblk m c 2 t (ix2 d k) = m ((c : Thread nD τ).loc main_arg2) (ix2 d k) := by
  have h : iblk m c 2 t (ix2 d k) = V m c main_v4 (ix2 d k) := by
    blk_simp [iblk]
    refine congrArg (V m c main_v4) ?_
    blk_ext [index2]
  rw [h, V_main_v4]

/-- The bias's block of any point is the bias argument as a row. -/
theorem block3 (c : Dev nD) (t : Fin cfg0.N) (k : Fin 64) :
    iblk m c 3 t (ix2 0 k) = m ((c : Thread nD τ).loc main_arg3) (ix1 k) := by
  have h : iblk m c 3 t (ix2 0 k) = V m c main_v1 (ix2 0 k) := by
    blk_simp [iblk]
    refine congrArg (V m c main_v1) ?_
    blk_ext [index3]
  rw [h, V_main_v1]
  refine shapeCast_apply _ _ _ (ix1 k : S64.Idx) ?_
  show (S64.rowMajor _).val = _
  simp only [Shape.rowMajor_val_one, Shape.rowMajor_val_two, Shape.rowMajor_val_three]
  simp [ix1, ix2, ix3]

/-- The scoring vector's block of any point is the scoring argument as a row. -/
theorem block4 (c : Dev nD) (t : Fin cfg0.N) (k : Fin 64) :
    iblk m c 4 t (ix2 0 k) = m ((c : Thread nD τ).loc main_arg4) (ix2 k 0) := by
  have h : iblk m c 4 t (ix2 0 k) = V m c main_v3 (ix2 0 k) := by
    blk_simp [iblk]
    refine congrArg (V m c main_v3) ?_
    blk_ext [index4]
  rw [h, V_main_v3]
  refine shapeCast_apply _ _ _ (ix2 k 0 : S64x1.Idx) ?_
  show (S64x1.rowMajor _).val = _
  simp only [Shape.rowMajor_val_one, Shape.rowMajor_val_two, Shape.rowMajor_val_three]
  simp [ix1, ix2, ix3]

/-- The region leaves in its output array, at (i, 0, d), sequence `i` pooled at feature `d`. -/
theorem array5 (c : Dev nD) : (dats m 0 c).arrAt 5 cfg0.N = fun y : S64x1x256.Idx =>
    kernelOut (m ((c : Thread nD τ).loc main_arg0)) (m ((c : Thread nD τ).loc main_arg1))
      (m ((c : Thread nD τ).loc main_arg2)) (m ((c : Thread nD τ).loc main_arg3))
      (m ((c : Thread nD τ).loc main_arg4)) (y 0) (y 2) := by
  refine (dats m 0 c).arrAt_eq_of_covers 5 _ (by decide +kernel) fun t _ y => ?_
  blk_simp
  rw [after0_5]
  obtain ⟨j, z, d, rfl⟩ : ∃ (j : Fin 2) (z : Fin 1) (d : Fin 256), y = ix3 j z d := ⟨y 0, y 1, y 2, eq_ix3 y⟩
  obtain rfl : z = 0 := Subsingleton.elim _ _
  refine (outsAt_apply m c t j d).trans ?_
  unfold blockOut kernelOut scores
  simp only [block0, block1, block2, block3, block4]
  have he : ((cfg0.win 5).blk t).view.emb (ix3 j 0 d : S2x1x256.Idx) = (ix3 (seqOf t j) 0 d : S64x1x256.Idx) := by
    blk_ext [index5, seqOf]
  exact (congrArg (fun y : S64x1x256.Idx => kernelOut (m ((c : Thread nD τ).loc main_arg0))
    (m ((c : Thread nD τ).loc main_arg1)) (m ((c : Thread nD τ).loc main_arg2)) (m ((c : Thread nD τ).loc main_arg3))
    (m ((c : Thread nD τ).loc main_arg4)) (y 0) (y 2)) he).symm

/-- The result after the last host operation: at (i, d), sequence `i` pooled at feature `d`. -/
theorem result_eq (c : Dev nD) : Pipeline.afterTail₀ cfgs (dats m) 0 (V0 m) [hostOps1] c main_v6 = fun y : S64x256.Idx =>
    kernelOut (m ((c : Thread nD τ).loc main_arg0)) (m ((c : Thread nD τ).loc main_arg1))
      (m ((c : Thread nD τ).loc main_arg2)) (m ((c : Thread nD τ).loc main_arg3))
      (m ((c : Thread nD τ).loc main_arg4)) (y 0) (y 1) := by
  have h : Pipeline.afterTail₀ cfgs (dats m) 0 (V0 m) [hostOps1] c main_v6
      = shapeCast S64x256 ((dats m 0 c).arrAt 5 cfg0.N : FVec Ideal S64x1x256 .f32) shapeCasts_S64x1x256_S64x256 := by
    simp only [Pipeline.afterTail₀, hostOps1, List.flatten_cons, List.flatten_nil, List.append_nil,
      StableHlo.after_cons, StableHlo.after_nil]
    refine (StableHlo.reshape_result (Val := Elt Ideal) main_v5 main_v6 rfl shapeCasts_S64x1x256_S64x256 _ _ _).trans ?_
    exact congrArg (fun A => shapeCast S64x256 A shapeCasts_S64x1x256_S64x256)
      (Pipeline.withArrays_arr spec0 launch0.win.arr_inj c (V0 m c) _ 5)
  rw [h, array5]
  funext y
  obtain ⟨i, d, rfl⟩ : ∃ (i : Fin 64) (d : Fin 256), y = ix2 i d := ⟨y 0, y 1, eq_ix2 y⟩
  refine (shapeCast_apply _ _ _ (ix3 i 0 d : S64x1x256.Idx) ?_).trans rfl
  simp only [Shape.rowMajor_val_two, Shape.rowMajor_val_three]
  simp [ix2, ix3]

/-- The kernel's run: it ends with the result pooled from the arguments, and with the arguments unchanged. -/
theorem run_kernel : θ_run defs (onTc (τ := τ) (main (F := Ideal))) ⟨m, fun _ => 0, ρ⟩ fun r => ∀ c : Dev nD,
      r.2.mem ((c.tc : Thread nD τ).loc main_v6) = (fun y : S64x256.Idx =>
        kernelOut (m ((c : Thread nD τ).loc main_arg0)) (m ((c : Thread nD τ).loc main_arg1))
          (m ((c : Thread nD τ).loc main_arg2)) (m ((c : Thread nD τ).loc main_arg3))
          (m ((c : Thread nD τ).loc main_arg4)) (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v6 (Pipeline.mem_restRefs_of main_v6 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.Pool

end
-- ==== Proof.Pool.Ref.lean ====
/- The reference's result, entry by entry: each sequence pooled with its weights normalised before the weighted sum. -/
module

public import proofs.«01_k».proof.Proof.Gen.ReferenceIdeal.Read
public import proofs.«01_k».proof.Proof.Pool.Array

@[expose] public section

noncomputable section

namespace Cert.Pool

open Idealize.ShloMosaic hiding ix1 ix2 ix3 eq_ix2 eq_ix3
open Idealize.ShloMosaic.ValueIdx
open Cert.ReferenceIdeal Cert.ReferenceIdeal.Gen Cert.ReferenceIdeal.Read

variable (x0 : FVec Ideal S64x4096x256 .f32) (x1 : IVec S64x4096 32) (x2 : FVec Ideal S256x64 .f32)
  (x3 : FVec Ideal S64 .f32) (x4 : FVec Ideal S64x1 .f32)

/-- The reference's hidden unit `k` at position `t` of sequence `b`. -/
theorem refHid_apply (b : Fin 64) (t : Fin 4096) (k : Fin 64) :
    val_main_v4 (F := Ideal) x0 x2 x3 (ix3 b t k)
      = hid (fun t d => x0 (ix3 b t d)) (fun d k => x2 (ix2 d k)) (fun k => x3 (ix1 k)) t k := by
  have hl : ∀ d, lidx_main_v0 (ix3 b t k) d = (ix3 b t d : S64x4096x256.Idx) := fun d => funext fun a => by
    match a with
    | ⟨0, _⟩ => rfl
    | ⟨1, _⟩ => rfl
    | ⟨2, _⟩ => rfl
  have hr : ∀ d, ridx_main_v0 (ix3 b t k) d = (ix2 d k : S256x64.Idx) := fun d => funext fun a => by
    match a with
    | ⟨0, _⟩ => rfl
    | ⟨1, _⟩ => rfl
  have hb : idx_main_v1 (idx_main_v2 (ix3 b t k)) = (ix1 k : S64.Idx) := funext fun a => by
    match a with
    | ⟨0, _⟩ => rfl
  rw [val_main_v4_apply, val_main_v3_apply, val_main_v0_apply, val_main_v2_apply, val_main_v1_apply, hb]
  simp only [hl, hr]
  rfl

/-- The reference's masked score of position `t` of sequence `b`. -/
theorem refScore_apply (b : Fin 64) (t : Fin 4096) :
    val_main_v12 (F := Ideal) x0 x1 x2 x3 x4 (ix2 b t) = scores x0 x1 x2 x3 x4 b t := by
  have h6 : idx_main_v6 (ix2 b t) = (ix3 b t 0 : S64x4096x1.Idx) := funext fun a => Fin.ext (by
    have := b.isLt
    have := t.isLt
    match a with
    | ⟨0, _⟩ => show (b.val * 4096 + t.val) / 4096 = b.val; omega
    | ⟨1, _⟩ => show (b.val * 4096 + t.val) / 1 % 4096 = t.val; omega
    | ⟨2, _⟩ => rfl)
  have hl : ∀ k, lidx_main_v5 (ix3 b t 0) k = (ix3 b t k : S64x4096x64.Idx) := fun k => funext fun a => by
    match a with
    | ⟨0, _⟩ => rfl
    | ⟨1, _⟩ => rfl
    | ⟨2, _⟩ => rfl
  have hr : ∀ k, ridx_main_v5 (ix3 b t 0) k = (ix2 k 0 : S64x1.Idx) := fun k => funext fun a => by
    match a with
    | ⟨0, _⟩ => rfl
    | ⟨1, _⟩ => rfl
  rw [val_main_v12_apply, val_main_v6_apply, h6, val_main_v5_apply]
  simp only [hl, hr, refHid_apply]
  rw [val_main_v11_apply, val_main_v9_apply, val_main_v8_apply, val_main_v10_apply]
  unfold scores logit
  refine congrArg₂ (· + ·) (Finset.sum_congr rfl fun k _ => mul_comm _ _) rfl

/-- The reference's largest score of sequence `b`: the further maximum with minus infinity changes nothing. -/
theorem refTop_apply (b : Fin 64) :
    val_main_v15 (F := Ideal) x0 x1 x2 x3 x4 (ix1 b) = top (scores x0 x1 x2 x3 x4 b) := by
  have h13 : val_main_v13 (F := Ideal) x0 x1 x2 x3 x4 (ix1 b) = top (scores x0 x1 x2 x3 x4 b) := by
    unfold val_main_v13 top
    refine (Host.reduce_eq_fold_single (α := EReal) max _ _ reducesTo_S64x4096_S64_d1
      (by decide : S64x4096.Reduces [1] S64) h_S_ (ix1 b)).trans ?_
    refine congrArg (fun f : Fin 4096 → EReal => Finset.univ.fold max low f) (funext fun t => ?_)
    refine Eq.trans (congrArg (val_main_v12 (F := Ideal) x0 x1 x2 x3 x4) (funext fun a => ?_))
      (refScore_apply x0 x1 x2 x3 x4 b t)
    match a with
    | ⟨0, _⟩ => rfl
    | ⟨1, _⟩ => rfl
  rw [val_main_v15_apply, h13, val_main_v14_apply]
  refine (congrArg (fun y => max y (top (scores x0 x1 x2 x3 x4 b))) low_eq).trans ?_
  exact max_eq_right bot_le

/-- The reference's weight of position `t` of sequence `b`, before normalisation. -/
theorem refWt_apply (b : Fin 64) (t : Fin 4096) :
    val_main_v19 (F := Ideal) x0 x1 x2 x3 x4 (ix2 b t) = wt (scores x0 x1 x2 x3 x4 b) t := by
  have h : idx_main_v16 (idx_main_v17 (ix2 b t)) = (ix1 b : S64.Idx) := funext fun a => by
    match a with
    | ⟨0, _⟩ => rfl
  rw [val_main_v19_apply, val_main_v18_apply, val_main_v17_apply, val_main_v16_apply, h, refTop_apply, refScore_apply]
  rfl

/-- The reference's sum of the weights of sequence `b`. -/
theorem refTot_apply (b : Fin 64) :
    val_main_v20 (F := Ideal) x0 x1 x2 x3 x4 (ix1 b) = tot (scores x0 x1 x2 x3 x4 b) := by
  have h : ∀ t, idx_main_v20 (ix1 b) t = (ix2 b t : S64x4096.Idx) := fun t => funext fun a => by
    match a with
    | ⟨0, _⟩ => rfl
    | ⟨1, _⟩ => rfl
  rw [val_main_v20_apply, val_main_cst_3_apply]
  simp only [h, refWt_apply]
  have hz : (FloatOps.ofBits (F := Ideal) .f32 0x00000000#32 : EReal) = 0 := by
    simp [Ideal.ofBits, Ideal.ieee]
  exact (congrArg (· + tot (scores x0 x1 x2 x3 x4 b)) hz).trans (zero_add _)

/-- The reference's result: sequence `b` pooled at feature `d`, the weights normalised before the sum. -/
theorem ref_apply (b : Fin 64) (d : Fin 256) :
    val_main_v24 (F := Ideal) x0 x1 x2 x3 x4 (ix2 b d)
      = pooledEarly (scores x0 x1 x2 x3 x4 b) (fun t => x0 (ix3 b t d)) := by
  have hl : ∀ t, lidx_main_v24 (ix2 b d) t = (ix3 b t d : S64x4096x256.Idx) := fun t => funext fun a => by
    match a with
    | ⟨0, _⟩ => rfl
    | ⟨1, _⟩ => rfl
    | ⟨2, _⟩ => rfl
  have hr : ∀ t, ridx_main_v24 (ix2 b d) t = (ix2 b t : S64x4096.Idx) := fun t => funext fun a => by
    match a with
    | ⟨0, _⟩ => rfl
    | ⟨1, _⟩ => rfl
  have h22 : ∀ t, idx_main_v21 (idx_main_v22 (ix2 b t)) = (ix1 b : S64.Idx) := fun t => funext fun a => by
    match a with
    | ⟨0, _⟩ => rfl
  rw [val_main_v24_apply]
  simp only [hl, hr, val_main_v23_apply, val_main_v22_apply, val_main_v21_apply, h22, refTot_apply, refWt_apply]
  rfl

end Cert.Pool

end
-- ==== Proof.Pool.Finite.lean ====
/- What the precondition says of the scoring vector: every entry is a real number. -/
module

public import proofs.«01_k».proof.Defs
public import proofs.«01_k».proof.Proof.Gen.KernelIdeal
public import Idealize.ShloMosaic.PureOps.Ideal.Laws
public import Idealize.ShloMosaic.Lib.Pipeline.Value

@[expose] public section

noncomputable section

namespace Cert.Pool

open Idealize.ShloMosaic

/-- The predicate's one side condition: a scalar spreads over the scoring vector's shape. -/
theorem finite_facts : Cert.Pre_finite_u.Facts := ⟨by decide⟩

/-- An extended real whose absolute value is below the literal infinity is a real number. -/
theorem real_of_abs_lt (a : EReal) (h : Ideal.cmp .olt (max a (-a)) (Ideal.ofBits .f32 0x7F800000#32) = 1#1) :
    ∃ r : ℝ, a = r := by
  have hi : (Ideal.ofBits .f32 0x7F800000#32 : EReal) = ⊤ := by simp [Ideal.ofBits, Ideal.ieee]
  rw [hi] at h
  induction a with
  | bot => simp [Ideal.cmp] at h
  | top => simp [Ideal.cmp] at h
  | coe r => exact ⟨r, rfl⟩

/-- Under the precondition every entry of the scoring vector is a real number. -/
theorem u_real [Cert.KernelIdeal.Facts] [Cert.Pre_finite_u.Facts]
    (m : (ℓ : Loc Cert.KernelIdeal.nD Cert.KernelIdeal.τ Cert.KernelIdeal.sig) → Buf (Elt Ideal) ℓ)
    (h : Pre_KernelIdeal_finite_u m) (c : Dev Cert.KernelIdeal.nD) (i : Cert.KernelIdeal.S64x1.Idx) :
    ∃ r : ℝ, (m ((c.tc : Thread Cert.KernelIdeal.nD Cert.KernelIdeal.τ).loc Cert.KernelIdeal.main_arg4) i : EReal)
      = (r : EReal) :=
  real_of_abs_lt _ (congrFun (h c) i)

end Cert.Pool

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Pool.Row
public import proofs.«01_k».proof.Proof.Pool.Array
public import proofs.«01_k».proof.Proof.Pool.Ref
public import proofs.«01_k».proof.Proof.Pool.Finite
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and every semaphore counter at zero: it has no semaphores. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0) :=
  (θ_run Cert.ReferenceIdeal.defs _ _).mono (fun r h => ⟨fun c => (h c).2, sem_eq_zero_of_no_sems (by decide) r.2⟩)
    (Cert.ReferenceIdeal.Value.run m g)

/-- For a finite scoring vector the kernel and the reference end with equal results. -/
theorem equal_results [Cert.Pre_finite_u.Facts] : Cert.algebraic_KernelIdeal_ReferenceIdeal_pre_finite_u := by
  intro m g m' g' hpre hagree
  refine ⟨_, Cert.Pool.run_kernel m g, ?_⟩
  refine (θ_run Cert.ReferenceIdeal.defs _ _).mono (fun r h c => ⟨(h c).1.trans ?_, (h c).2⟩)
    (Cert.ReferenceIdeal.Value.run m' g')
  refine (Cert.ReferenceIdeal.Read.val_main_v24_eq _ _ _ _ _).trans ?_
  obtain ⟨h0, h1, h2, h3, h4⟩ := hagree c
  rw [h0, h1, h2, h3, h4]
  funext y
  obtain ⟨b, d, rfl⟩ : ∃ (b : Fin 64) (d : Fin 256), y = ValueIdx.ix2 b d := ⟨y 0, y 1, ValueIdx.eq_ix2 y⟩
  refine (Cert.Pool.ref_apply _ _ _ _ _ b d).trans ?_
  exact (Cert.Pool.pooledLate_eq_pooledEarly _
    (Cert.Pool.logit_real _ _ _ _ _ fun k => Cert.Pool.u_real m hpre c (ValueIdx.ix2 k 0)) _).symm

/-- Every claim of the certificate. -/
theorem claim : Cert.Claim :=
  ⟨Cert.Kernel.Gen.facts, Cert.KernelIdeal.Gen.facts, Cert.ReferenceIdeal.Gen.facts, Cert.Pool.finite_facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    letI := Cert.Pool.finite_facts
    equal_results⟩

end Cert.Proof

end
